-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x256 : Shape := ⟨2, ![4, 256]⟩
abbrev S4x128x256 : Shape := ⟨3, ![4, 128, 256]⟩
abbrev S4x50x256 : Shape := ⟨3, ![4, 50, 256]⟩
abbrev S4x128 : Shape := ⟨2, ![4, 128]⟩
abbrev S4x128x50 : Shape := ⟨3, ![4, 128, 50]⟩
abbrev S1024x768 : Shape := ⟨2, ![1024, 768]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S4x256 : S_.BroadcastsInDim S4x256 (![] : Fin 0 → Fin S4x256.rank)
  bcast_S_S4x128x256 : S_.BroadcastsInDim S4x128x256 (![] : Fin 0 → Fin S4x128x256.rank)
  bcast_S_S4x50x256 : S_.BroadcastsInDim S4x50x256 (![] : Fin 0 → Fin S4x50x256.rank)
  bcast_S_S1024x768 : S_.BroadcastsInDim S1024x768 (![] : Fin 0 → Fin S1024x768.rank)
  bcast_S_S1024 : S_.BroadcastsInDim S1024 (![] : Fin 0 → Fin S1024.rank)
  bcast_S_S1x1024 : S_.BroadcastsInDim S1x1024 (![] : Fin 0 → Fin S1x1024.rank)
  bcast_S_S1 : S_.BroadcastsInDim S1 (![] : Fin 0 → Fin S1.rank)

variable [Facts]

def fn_part1 {F : FTy → Type} [FloatOps F] (main_arg8 : FVec F S1 .f32) (main_v2 : IVec S4x256 1) (main_v5 : IVec S4x128x256 1) (main_v8 : IVec S4x50x256 1) (main_v11 : IVec S1024x768 1) (main_v14 : IVec S1024 1) (main_v17 : IVec S1x1024 1) : IVec S4x256 1 × IVec S4x128x256 1 × IVec S4x50x256 1 × IVec S1024x768 1 × IVec S1024 1 × IVec S1x1024 1 × IVec S1 1 :=
  let main_v18 : FVec F S1 .f32 := Host.absf main_arg8
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  (main_v2, main_v5, main_v8, main_v11, main_v14, main_v17, main_v20)

def fn {F : FTy → Type} [FloatOps F] (main_arg0 : FVec F S4x256 .f32) (main_arg1 : FVec F S4x128x256 .f32) (main_arg2 : FVec F S4x50x256 .f32) (main_arg3 : FVec F S4x128 .f32) (main_arg4 : FVec F S4x128x50 .f32) (main_arg5 : FVec F S1024x768 .f32) (main_arg6 : FVec F S1024 .f32) (main_arg7 : FVec F S1x1024 .f32) (main_arg8 : FVec F S1 .f32) : IVec S4x256 1 × IVec S4x128x256 1 × IVec S4x50x256 1 × IVec S1024x768 1 × IVec S1024 1 × IVec S1x1024 1 × IVec S1 1 :=
  let main_v0 : FVec F S4x256 .f32 := Host.absf main_arg0
  let main_cst : FVec F S_ .f32 := constant S_ .f32 0x7F800000#32
  let main_v1 : FVec F S4x256 .f32 := broadcastInDim S4x256 ![] bcast_S_S4x256 main_cst
  let main_v2 : IVec S4x256 1 := cmpf .olt main_v0 main_v1
  let main_v3 : FVec F S4x128x256 .f32 := Host.absf main_arg1
  let main_cst_0 : FVec F S_ .f32 := constant S_ .f32 0x7F800000#32
  let main_v4 : FVec F S4x128x256 .f32 := broadcastInDim S4x128x256 ![] bcast_S_S4x128x256 main_cst_0
  let main_v5 : IVec S4x128x256 1 := cmpf .olt main_v3 main_v4
  let main_v6 : FVec F S4x50x256 .f32 := Host.absf main_arg2
  let main_cst_1 : FVec F S_ .f32 := constant S_ .f32 0x7F800000#32
  let main_v7 : FVec F S4x50x256 .f32 := broadcastInDim S4x50x256 ![] bcast_S_S4x50x256 main_cst_1
  let main_v8 : IVec S4x50x256 1 := cmpf .olt main_v6 main_v7
  let main_v9 : FVec F S1024x768 .f32 := Host.absf main_arg5
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_v12 : FVec F S1024 .f32 := Host.absf main_arg6
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x1024 .f32 := Host.absf main_arg7
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg8 main_v2 main_v5 main_v8 main_v11 main_v14 main_v17
-- ==== Kernel.lean ====
abbrev S4x256 : Shape := ⟨2, ![4, 256]⟩
abbrev S4x128x256 : Shape := ⟨3, ![4, 128, 256]⟩
abbrev S4x50x256 : Shape := ⟨3, ![4, 50, 256]⟩
abbrev S4x128 : Shape := ⟨2, ![4, 128]⟩
abbrev S4x128x50 : Shape := ⟨3, ![4, 128, 50]⟩
abbrev S1024x768 : Shape := ⟨2, ![1024, 768]⟩
abbrev S1024 : Shape := ⟨1, ![1024]⟩
abbrev S1x1024 : Shape := ⟨2, ![1, 1024]⟩
abbrev S1 : Shape := ⟨1, ![1]⟩
abbrev S512x256 : Shape := ⟨2, ![512, 256]⟩
abbrev S200x256 : Shape := ⟨2, ![200, 256]⟩
abbrev S128x4 : Shape := ⟨2, ![128, 4]⟩
abbrev S512x50 : Shape := ⟨2, ![512, 50]⟩
abbrev S1024x1 : Shape := ⟨2, ![1024, 1]⟩
abbrev S1x1 : Shape := ⟨2, ![1, 1]⟩
abbrev S1024x256 : Shape := ⟨2, ![1024, 256]⟩
abbrev S25600x25 : Shape := ⟨2, ![25600, 25]⟩
abbrev S25600x1 : Shape := ⟨2, ![25600, 1]⟩
abbrev S4x1024 : Shape := ⟨2, ![4, 1024]⟩
abbrev S512x1024 : Shape := ⟨2, ![512, 1024]⟩
abbrev S200x1024 : Shape := ⟨2, ![200, 1024]⟩
abbrev S50x1024 : Shape := ⟨2, ![50, 1024]⟩
abbrev S128x256 : Shape := ⟨2, ![128, 256]⟩
abbrev S1x256 : Shape := ⟨2, ![1, 256]⟩
abbrev S512x25600 : Shape := ⟨2, ![512, 25600]⟩
abbrev S512x25 : Shape := ⟨2, ![512, 25]⟩
abbrev S128x1 : Shape := ⟨2, ![128, 1]⟩
abbrev S512x1 : Shape := ⟨2, ![512, 1]⟩
abbrev S128x50 : Shape := ⟨2, ![128, 50]⟩
abbrev S1x128x50 : Shape := ⟨3, ![1, 128, 50]⟩
abbrev S1x1x1 : Shape := ⟨3, ![1, 1, 1]⟩
abbrev S4x6400 : Shape := ⟨2, ![4, 6400]⟩

abbrev nBuf : Space → Nat
  | .hbm => 18
  | .vmem => 10
  | .smem => 0
  | _ => 0

abbrev bufTy : (tb : Table) → Fin (tcTables nBuf tb) → BufTy
  | .hbm, ⟨0, _⟩ => ⟨S4x256, .f32⟩
  | .hbm, ⟨1, _⟩ => ⟨S4x128x256, .f32⟩
  | .hbm, ⟨2, _⟩ => ⟨S4x50x256, .f32⟩
  | .hbm, ⟨3, _⟩ => ⟨S4x128, .f32⟩
  | .hbm, ⟨4, _⟩ => ⟨S4x128x50, .f32⟩
  | .hbm, ⟨5, _⟩ => ⟨S1024x768, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S512x256, .f32⟩
  | .hbm, ⟨10, _⟩ => ⟨S200x256, .f32⟩
  | .hbm, ⟨11, _⟩ => ⟨S128x4, .f32⟩
  | .hbm, ⟨12, _⟩ => ⟨S512x50, .f32⟩
  | .hbm, ⟨13, _⟩ => ⟨S1x1024, .f32⟩
  | .hbm, ⟨14, _⟩ => ⟨S1024x1, .f32⟩
  | .hbm, ⟨15, _⟩ => ⟨S1x1, .f32⟩
  | .hbm, ⟨16, _⟩ => ⟨S4x128x50, .f32⟩
  | .hbm, ⟨17, _⟩ => ⟨S4x6400, .f32⟩
  | .local _ .vmem, ⟨0, _⟩ => ⟨S4x256, .f32⟩
  | .local _ .vmem, ⟨1, _⟩ => ⟨S512x256, .f32⟩
  | .local _ .vmem, ⟨2, _⟩ => ⟨S200x256, .f32⟩
  | .local _ .vmem, ⟨3, _⟩ => ⟨S128x4, .f32⟩
  | .local _ .vmem, ⟨4, _⟩ => ⟨S512x50, .f32⟩
  | .local _ .vmem, ⟨5, _⟩ => ⟨S1024x768, .f32⟩
  | .local _ .vmem, ⟨6, _⟩ => ⟨S1x1024, .f32⟩
  | .local _ .vmem, ⟨7, _⟩ => ⟨S1024x1, .f32⟩
  | .local _ .vmem, ⟨8, _⟩ => ⟨S1x1, .f32⟩
  | .local _ .vmem, ⟨9, _⟩ => ⟨S4x128x50, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S4x256 : Shape := ⟨2, ![4, 256]⟩
abbrev S4x128x256 : Shape := ⟨3, ![4, 128, 256]⟩
abbrev S4x50x256 : Shape := ⟨3, ![4, 50, 256]⟩
abbrev S4x128 : Shape := ⟨2, ![4, 128]⟩
abbrev S4x128x50 : Shape := ⟨3, ![4, 128, 50]⟩
abbrev S1024x768 : Shape := ⟨2, ![1024, 768]⟩
abbrev S1024 : Shape := ⟨1, ![1024]⟩
abbrev S1x1024 : Shape := ⟨2, ![1, 1024]⟩
abbrev S1 : Shape := ⟨1, ![1]⟩
abbrev S4x1x1x256 : Shape := ⟨4, ![4, 1, 1, 256]⟩
abbrev S4x128x50x256 : Shape := ⟨4, ![4, 128, 50, 256]⟩
abbrev S4x128x1x256 : Shape := ⟨4, ![4, 128, 1, 256]⟩
abbrev S4x1x50x256 : Shape := ⟨4, ![4, 1, 50, 256]⟩
abbrev S4x128x50x768 : Shape := ⟨4, ![4, 128, 50, 768]⟩
abbrev S768x1024 : Shape := ⟨2, ![768, 1024]⟩
abbrev S4x128x50x1024 : Shape := ⟨4, ![4, 128, 50, 1024]⟩
abbrev S1x1x1x1024 : Shape := ⟨4, ![1, 1, 1, 1024]⟩
abbrev S_ : Shape := ⟨0, ![]⟩
abbrev S1024x1 : Shape := ⟨2, ![1024, 1]⟩
abbrev S4x128x50x1 : Shape := ⟨4, ![4, 128, 50, 1]⟩
abbrev S1x1x1x1 : Shape := ⟨4, ![1, 1, 1, 1]⟩
abbrev S4x128x1 : Shape := ⟨3, ![4, 128, 1]⟩
abbrev S4x6400 : Shape := ⟨2, ![4, 6400]⟩
abbrev S4 : Shape := ⟨1, ![4]⟩
abbrev S4x1 : Shape := ⟨2, ![4, 1]⟩

abbrev nBuf : Space → Nat
  | .hbm => 62
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x128x256, .f32⟩
  | .hbm, ⟨2, _⟩ => ⟨S4x50x256, .f32⟩
  | .hbm, ⟨3, _⟩ => ⟨S4x128, .f32⟩
  | .hbm, ⟨4, _⟩ => ⟨S4x128x50, .f32⟩
  | .hbm, ⟨5, _⟩ => ⟨S1024x768, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S4x1x1x256, .f32⟩
  | .hbm, ⟨10, _⟩ => ⟨S4x128x50x256, .f32⟩
  | .hbm, ⟨11, _⟩ => ⟨S4x128x1x256, .f32⟩
  | .hbm, ⟨12, _⟩ => ⟨S4x128x50x256, .f32⟩
  | .hbm, ⟨13, _⟩ => ⟨S4x1x50x256, .f32⟩
  | .hbm, ⟨14, _⟩ => ⟨S4x128x50x256, .f32⟩
  | .hbm, ⟨15, _⟩ => ⟨S4x128x50x768, .f32⟩
  | .hbm, ⟨16, _⟩ => ⟨S768x1024, .f32⟩
  | .hbm, ⟨17, _⟩ => ⟨S4x128x50x1024, .f32⟩
  | .hbm, ⟨18, _⟩ => ⟨S1x1x1x1024, .f32⟩
  | .hbm, ⟨19, _⟩ => ⟨S4x128x50x1024, .f32⟩
  | .hbm, ⟨20, _⟩ => ⟨S4x128x50x1024, .f32⟩
  | .hbm, ⟨21, _⟩ => ⟨S_, .f32⟩
  | .hbm, ⟨22, _⟩ => ⟨S4x128x50x1024, .f32⟩
  | .hbm, ⟨23, _⟩ => ⟨S4x128x50x1024, .f32⟩
  | .hbm, ⟨24, _⟩ => ⟨S1024x1, .f32⟩
  | .hbm, ⟨25, _⟩ => ⟨S4x128x50x1, .f32⟩
  | .hbm, ⟨26, _⟩ => ⟨S1x1x1x1, .f32⟩
  | .hbm, ⟨27, _⟩ => ⟨S4x128x50x1, .f32⟩
  | .hbm, ⟨28, _⟩ => ⟨S4x128x50x1, .f32⟩
  | .hbm, ⟨29, _⟩ => ⟨S4x128x50, .f32⟩
  | .hbm, ⟨30, _⟩ => ⟨S4x128x1, .f32⟩
  | .hbm, ⟨31, _⟩ => ⟨S_, .f32⟩
  | .hbm, ⟨32, _⟩ => ⟨S4x128x1, .f32⟩
  | .hbm, ⟨33, _⟩ => ⟨S4x128x1, .i1⟩
  | .hbm, ⟨34, _⟩ => ⟨S_, .f32⟩
  | .hbm, ⟨35, _⟩ => ⟨S4x128x50, .f32⟩
  | .hbm, ⟨36, _⟩ => ⟨S4x128x50, .i1⟩
  | .hbm, ⟨37, _⟩ => ⟨S4x128x50, .i1⟩
  | .hbm, ⟨38, _⟩ => ⟨S4x128x50, .i1⟩
  | .hbm, ⟨39, _⟩ => ⟨S_, .f32⟩
  | .hbm, ⟨40, _⟩ => ⟨S4x128x50, .f32⟩
  | .hbm, ⟨41, _⟩ => ⟨S4x128x50, .f32⟩
  | .hbm, ⟨42, _⟩ => ⟨S4x6400, .f32⟩
  | .hbm, ⟨43, _⟩ => ⟨S_, .f32⟩
  | .hbm, ⟨44, _⟩ => ⟨S4, .f32⟩
  | .hbm, ⟨45, _⟩ => ⟨S4x1, .f32⟩
  | .hbm, ⟨46, _⟩ => ⟨S4x6400, .f32⟩
  | .hbm, ⟨47, _⟩ => ⟨S4x6400, .f32⟩
  | .hbm, ⟨48, _⟩ => ⟨S_, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4x1, .f32⟩
  | .hbm, ⟨54, _⟩ => ⟨S4x6400, .f32⟩
  | .hbm, ⟨55, _⟩ => ⟨S4x6400, .f32⟩
  | .hbm, ⟨56, _⟩ => ⟨S4x6400, .f32⟩
  | .hbm, ⟨57, _⟩ => ⟨S_, .f32⟩
  | .hbm, ⟨58, _⟩ => ⟨S4, .f32⟩
  | .hbm, ⟨59, _⟩ => ⟨S4x1, .f32⟩
  | .hbm, ⟨60, _⟩ => ⟨S4x6400, .f32⟩
  | .hbm, ⟨61, _⟩ => ⟨S4x6400, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_call1_v0 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Policy.lean ====
/- The policy's mathematics over the real numbers: what both programs compute on finite inputs, and the small facts
   that carry sums, maxima and the normalisation between the reals and the extended reals. -/
module

public import Idealize.ShloMosaic.PureOps.Ideal
public import Idealize.ShloMosaic.Lib.IdealHost
public import Mathlib.Analysis.SpecialFunctions.Exp
public import Mathlib.Data.EReal.Operations

@[expose] public section

noncomputable section

namespace Cert.Proof.Policy

open Idealize.ShloMosaic

/-! ## The network -/

/-- The real parameters and features the policy is a function of. -/
structure Net where
  /-- the graph's embedding, a row for each batch -/
  graph : Fin 4 → Fin 256 → ℝ
  /-- the operators' embeddings -/
  op : Fin 4 → Fin 128 → Fin 256 → ℝ
  /-- the machines' embeddings -/
  mac : Fin 4 → Fin 50 → Fin 256 → ℝ
  /-- the first layer's weights, a row for each hidden unit -/
  W1 : Fin 1024 → Fin 768 → ℝ
  /-- the first layer's bias -/
  b1 : Fin 1024 → ℝ
  /-- the second layer's weights -/
  w2 : Fin 1024 → ℝ
  /-- the second layer's bias -/
  b2 : ℝ

/-- The pre-activation of hidden unit `k` on the pair (operator `i`, machine `j`) of batch `b`. -/
def Net.pre (N : Net) (b : Fin 4) (i : Fin 128) (j : Fin 50) (k : Fin 1024) : ℝ :=
  (∑ a : Fin 256, N.graph b a * N.W1 k ⟨a.val, by omega⟩) + (∑ a : Fin 256, N.op b i a * N.W1 k ⟨256 + a.val, by omega⟩)
    + (∑ a : Fin 256, N.mac b j a * N.W1 k ⟨512 + a.val, by omega⟩) + N.b1 k

/-- The pair's logit. -/
def Net.logit (N : Net) (b : Fin 4) (i : Fin 128) (j : Fin 50) : ℝ :=
  (∑ k : Fin 1024, max (N.pre b i j k) 0 * N.w2 k) + N.b2

/-- The probabilities of one batch's pairs with logits `l`: the normalised exponentials. -/
def soft (l : Fin 128 → Fin 50 → ℝ) (i : Fin 128) (j : Fin 50) : ℝ :=
  Real.exp (l i j) / ∑ p : Fin 128, ∑ q : Fin 50, Real.exp (l p q)

/-! ## Between the reals and the extended reals -/

/-- A finite sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals is the same in the extended reals. -/
theorem coe_max (x y : ℝ) : ((max x y : ℝ) : EReal) = max (x : EReal) (y : EReal) :=
  EReal.coe_strictMono.monotone.map_max

/-- The greatest of finitely many reals, of at least one, is a real. -/
theorem fold_max_real {ι : Type*} (s : Finset ι) (hs : s.Nonempty) (f : ι → ℝ) :
    ∃ c : ℝ, s.fold max (⊥ : EReal) (fun i => (f i : EReal)) = (c : EReal) := by
  classical
  induction hs using Finset.Nonempty.cons_induction with
  | singleton a => exact ⟨f a, by simp⟩
  | cons a s ha hs ih =>
    obtain ⟨c, hc⟩ := ih
    exact ⟨max (f a) c, by rw [Finset.fold_cons, hc, coe_max]⟩

/-- A sum over `m · n` numbers taken block by block. -/
theorem sum_blocks {M : Type*} [AddCommMonoid M] (m n : ℕ) (f : Fin (m * n) → M) :
    ∑ x, f x = ∑ a : Fin m, ∑ b : Fin n, f ⟨n * a.val + b.val, by
      have := a.isLt; have := b.isLt
      calc n * a.val + b.val < n * a.val + n := by omega
        _ = n * (a.val + 1) := by ring
        _ ≤ n * m := Nat.mul_le_mul_left _ (by omega)
        _ = m * n := Nat.mul_comm ..⟩ := by
  rw [← Fintype.sum_prod_type', ← finProdFinEquiv.sum_comp]
  refine Finset.sum_congr rfl fun p _ => congrArg f (Fin.ext ?_)
  show p.2.val + n * p.1.val = n * p.1.val + p.2.val
  omega

/-- Exponentials of logits less any one real, normalised by their sum, are the probabilities. -/
theorem soft_shift (l : Fin 128 → Fin 50 → ℝ) (c : ℝ) (i : Fin 128) (j : Fin 50) :
    Real.exp (l i j - c) / ∑ p : Fin 128, ∑ q : Fin 50, Real.exp (l p q - c) = soft l i j := by
  unfold soft
  simp only [Real.exp_sub, ← Finset.sum_div]
  rw [div_div_div_cancel_right₀ (Real.exp_pos c).ne']

/-- The normaliser is positive. -/
theorem norm_pos (l : Fin 128 → Fin 50 → ℝ) (c : ℝ) : 0 < ∑ p : Fin 128, ∑ q : Fin 50, Real.exp (l p q - c) :=
  Finset.sum_pos (fun _ _ => Finset.sum_pos (fun _ _ => Real.exp_pos _) Finset.univ_nonempty) Finset.univ_nonempty

/-- The quotient of two reals, the divisor not zero, is the real quotient. -/
theorem div_real (x : ℝ) {y : ℝ} (hy : y ≠ 0) : Ideal.div (x : EReal) (y : EReal) = ((x / y : ℝ) : EReal) := by
  rw [Ideal.div_coe hy, ← EReal.coe_mul, mul_one_div]

/-! ## The constants the programs write as bit patterns -/

/-- The factor the kernel scales the second layer's weights with. -/
theorem word_64 : Ideal.ofBits .f32 0x42800000#32 = ((64 : ℝ) : EReal) := by
  simp [Ideal.ofBits, Ideal.ieee, -EReal.coe_mul]; norm_num

/-- The factor that takes the scale back out. -/
theorem word_64th : Ideal.ofBits .f32 0x3C800000#32 = ((1 / 64 : ℝ) : EReal) := by
  simp [Ideal.ofBits, Ideal.ieee, -EReal.coe_mul]; norm_num

/-- The start of a maximum. -/
theorem word_bot : Ideal.ofBits .f32 0xFF800000#32 = (⊥ : EReal) := by
  simp [Ideal.ofBits, Ideal.ieee]

/-- Plus infinity, the bound the finiteness test compares with. -/
theorem word_top : Ideal.ofBits .f32 0x7F800000#32 = (⊤ : EReal) := by
  simp [Ideal.ofBits, Ideal.ieee]

/-- The logit of a masked pair: the least finite number of the format. -/
def masked : ℝ := (Ideal.ofBits .f32 0xFF7FFFFF#32 : EReal).toReal

/-- That pattern is a real. -/
theorem word_masked : Ideal.ofBits .f32 0xFF7FFFFF#32 = ((masked : ℝ) : EReal) := by
  have h : ∃ r : ℝ, (Ideal.ofBits .f32 0xFF7FFFFF#32 : EReal) = (r : EReal) := by
    simp [Ideal.ofBits, Ideal.ieee, -EReal.coe_mul, -EReal.coe_neg]
  obtain ⟨r, hr⟩ := h
  unfold masked
  rw [hr, EReal.toReal_coe]

/-- A pair's logit after masking: its own where both masks are positive, the least finite number elsewhere. -/
def Net.maskedLogit (N : Net) (opMask : Fin 4 → Fin 128 → EReal) (macMask : Fin 4 → Fin 128 → Fin 50 → EReal)
    (b : Fin 4) (i : Fin 128) (j : Fin 50) : ℝ :=
  open Classical in if 0 < opMask b i ∧ 0 < macMask b i j then N.logit b i j else masked

end Cert.Proof.Policy

end
-- ==== Proof.Inputs.lean ====
/- The arguments as a network: under the precondition every embedding, weight and bias is a real number. -/
module

public import proofs.«01_k».proof.Defs
public import proofs.«01_k».proof.Proof.Policy
public import proofs.«01_k».proof.Proof.Gen.Pre_finite_inputs
public import Idealize.ShloMosaic.Lib.Pointwise

@[expose] public section

set_option maxRecDepth 16384

noncomputable section

namespace Cert.Proof.Policy

open Idealize.ShloMosaic Cert.KernelIdeal

/-- The arguments hold the network `N`. -/
structure Inputs (N : Net) (a0 : Vec Ideal S4x256 .f32) (a1 : Vec Ideal S4x128x256 .f32) (a2 : Vec Ideal S4x50x256 .f32)
    (a5 : Vec Ideal S1024x768 .f32) (a6 : Vec Ideal S1024 .f32) (a7 : Vec Ideal S1x1024 .f32) (a8 : Vec Ideal S1 .f32) : Prop where
  graph : ∀ b a, a0 (ix2 b a) = ((N.graph b a : ℝ) : EReal)
  op : ∀ b i a, a1 (ix3 b i a) = ((N.op b i a : ℝ) : EReal)
  mac : ∀ b j a, a2 (ix3 b j a) = ((N.mac b j a : ℝ) : EReal)
  W1 : ∀ k a, a5 (ix2 k a) = ((N.W1 k a : ℝ) : EReal)
  b1 : ∀ k, a6 (ix1 k) = ((N.b1 k : ℝ) : EReal)
  w2 : ∀ k, a7 (ix2 0 k) = ((N.w2 k : ℝ) : EReal)
  b2 : a8 (ix1 0) = ((N.b2 : ℝ) : EReal)

/-- A batch's logits, masked by the mask arguments. -/
def argLogit (N : Net) (a3 : Vec Ideal S4x128 .f32) (a4 : Vec Ideal S4x128x50 .f32) : Fin 4 → Fin 128 → Fin 50 → ℝ :=
  N.maskedLogit (fun b i => a3 (ix2 b i)) (fun b i j => a4 (ix3 b i j))

/-- What both programs are shown to compute: the probabilities, a row for each batch, the pair (operator `i`,
    machine `j`) at column `50 · i + j`. -/
def probabilities (N : Net) (a3 : Vec Ideal S4x128 .f32) (a4 : Vec Ideal S4x128x50 .f32) : Vec Ideal S4x6400 .f32 := fun x =>
  ((soft (argLogit N a3 a4 (x 0)) ⟨(x 1).val / 50, by have : (x 1).val < 6400 := (x 1).isLt; omega⟩ ⟨(x 1).val % 50, by omega⟩ : ℝ) : EReal)

/-- Every index of the result names a batch and a pair. -/
theorem exists_pair (x : S4x6400.Idx) : ∃ (b : Fin 4) (i : Fin 128) (j : Fin 50), x = ix2 b ⟨50 * i.val + j.val, by omega⟩ := by
  have h : (x 1).val < 6400 := (x 1).isLt
  refine ⟨x 0, ⟨(x 1).val / 50, by omega⟩, ⟨(x 1).val % 50, by omega⟩, ?_⟩
  funext a
  fin_cases a
  · rfl
  · exact Fin.ext (Nat.div_add_mod (x 1).val 50).symm

/-- The result at a pair. -/
theorem probabilities_apply (N : Net) (a3 : Vec Ideal S4x128 .f32) (a4 : Vec Ideal S4x128x50 .f32) (b : Fin 4) (i : Fin 128) (j : Fin 50) :
    probabilities N a3 a4 (ix2 b ⟨50 * i.val + j.val, by omega⟩) = ((soft (argLogit N a3 a4 b) i j : ℝ) : EReal) := by
  have hi : (⟨(50 * i.val + j.val) / 50, by omega⟩ : Fin 128) = i := Fin.ext (by dsimp only; omega)
  have hj : (⟨(50 * i.val + j.val) % 50, by omega⟩ : Fin 50) = j := Fin.ext (by dsimp only; omega)
  show ((soft (argLogit N a3 a4 b) ⟨(50 * i.val + j.val) / 50, _⟩ ⟨(50 * i.val + j.val) % 50, _⟩ : ℝ) : EReal) = _
  rw [hi, hj]

/-- An extended real whose absolute value lies below plus infinity is a real. -/
theorem real_of_abs_lt (x : EReal) (h : max x (-x) < ⊤) : x = ((x.toReal : ℝ) : EReal) := by
  refine (EReal.coe_toReal ?_ ?_).symm
  · rintro rfl; simp at h
  · rintro rfl; simp at h

/-- Where the comparison of an array's absolute values with infinity is all ones, its entries are reals. -/
theorem real_of_ones {S : Shape} (x : FVec Ideal S .f32)
    (hb : Cert.Pre_finite_inputs.S_.BroadcastsInDim S (![] : Fin 0 → Fin S.rank))
    (h : cmpf .olt (Host.absf x) (broadcastInDim S ![] hb (constant Cert.Pre_finite_inputs.S_ .f32 0x7F800000#32)) = fun _ => 1)
    (i : S.Idx) : x i = (((x i : EReal).toReal : ℝ) : EReal) := by
  have hi := congrFun h i
  have e : Ideal.cmp .olt (max (x i : EReal) (-(x i))) (Ideal.ofBits .f32 0x7F800000#32) = 1 := hi
  rw [word_top] at e
  refine real_of_abs_lt _ ?_
  by_contra hn
  simp [Ideal.cmp, hn] at e

/-- Under the precondition the arguments hold a network. -/
theorem exists_net (m : (ℓ : Loc nD τ sig) → Buf (Elt Ideal) ℓ) (h : Cert.Pre_KernelIdeal_finite_inputs m) (c : Dev nD) :
    ∃ N : Net, Inputs N (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg8)) := by
  obtain ⟨h0, h1, h2, h5, h6, h7, h8⟩ := h c
  refine ⟨⟨_, _, _, _, _, _, _⟩, fun b a => real_of_ones _ _ h0 _, fun b i a => real_of_ones _ _ h1 _, fun b j a => real_of_ones _ _ h2 _,
    fun k a => real_of_ones _ _ h5 _, fun k => real_of_ones _ _ h6 _, fun k => real_of_ones _ _ h7 _, real_of_ones _ _ h8 _⟩

end Cert.Proof.Policy

end
-- ==== Proof.KernelBlocks.lean ====
/- The kernel writes its first layer's activations out as two hundred strips of 256 columns. Here one strip is
   given as one function of its number, and the kernel's whole table of logits is that function's strips laid
   end to end and multiplied with the block-diagonal second layer. -/
module

public import proofs.«01_k».proof.Proof.Gen.KernelIdeal.Frame

@[expose] public section

noncomputable section

namespace Cert.Proof.Blocks

open Idealize.ShloMosaic Cert.KernelIdeal Cert.KernelIdeal.Gen

variable {F : FTy → Type} [FloatOps F]

/-- A window of 128 rows and 256 columns lies inside the operator table, whichever batch and quarter it is. -/
theorem opWindow (b q : Fin 4) : S512x1024.Slices ![128 * b.val, 256 * q.val] S128x256 := by
  revert b q; decide

/-- A window of one row and 256 columns lies inside the machine table, whichever row and quarter it is. -/
theorem macWindow (r : Fin 200) (q : Fin 4) : S200x1024.Slices ![r.val, 256 * q.val] S1x256 := by
  revert r q; decide

/-- The activations of the pairs (any operator, machine `j`) of batch `b`, on quarter `q` of the hidden units:
    the operator table's rows of the batch plus the machine's row, negative entries cut to zero. -/
def act (ops : FVec F S512x1024 .bf16) (macs : FVec F S200x1024 .bf16) (b q : Fin 4) (j : Fin 50) : FVec F S128x256 .fp8e4m3 :=
  truncf .fp8e4m3
    (maximumf
      (addf (extractStridedSlice S128x256 ![128 * b.val, 256 * q.val] ops (opWindow b q))
        (broadcastTo S128x256
          (extractStridedSlice S1x256 ![50 * b.val + j.val, 256 * q.val] macs (macWindow ⟨50 * b.val + j.val, by omega⟩ q))
          broadcasts_S1x256_S128x256))
      (broadcast S128x256 (Scalar.ofBits .bf16 0x0000#16)))
    bitsLt_fp8e4m3_bf16

/-- One strip: the four batches' activations of machine `j` on quarter `q`, one under the other. -/
def strip (ops : FVec F S512x1024 .bf16) (macs : FVec F S200x1024 .bf16) (q : Fin 4) (j : Fin 50) : FVec F S512x256 .fp8e4m3 :=
  concatenate S512x256 0 [⟨S128x256, act ops macs 0 q j⟩, ⟨S128x256, act ops macs 1 q j⟩,
    ⟨S128x256, act ops macs 2 q j⟩, ⟨S128x256, act ops macs 3 q j⟩]
    concatenates_S128x256_S128x256_S128x256_S128x256_S512x256_d0

/-- The strips of one half of the machines: strip `n` is machine `25 g + n / 4` on quarter `n % 4`. -/
def halfStrip (ops : FVec F S512x1024 .bf16) (macs : FVec F S200x1024 .bf16) (g : Fin 2) (n : Fin 100) : FVec F S512x256 .fp8e4m3 :=
  strip ops macs ⟨n.val % 4, by omega⟩ ⟨25 * g.val + n.val / 4, by omega⟩

/-- A hundred strips of 256 columns fill a table of 25600. -/
theorem stripsFill (f : Fin 100 → FVec F S512x256 .fp8e4m3) :
    Shape.Concatenates ((List.ofFn fun n : Fin 100 => (⟨S512x256, f n⟩ : (s : Shape) × (s.Idx → F .fp8e4m3))).map (·.1)) S512x25600 1 := by
  rw [List.map_ofFn]
  exact concatenates_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x256_S512x25600_d1

/-- One half's activations, all the strips side by side. -/
def half (ops : FVec F S512x1024 .bf16) (macs : FVec F S200x1024 .bf16) (g : Fin 2) : FVec F S512x25600 .fp8e4m3 :=
  concatenate S512x25600 1 (List.ofFn fun n : Fin 100 => (⟨S512x256, halfStrip ops macs g n⟩ : (s : Shape) × (s.Idx → F .fp8e4m3)))
    (stripsFill (halfStrip ops macs g))

/-- The kernel's table of logits before masking, from the block-diagonal second layer, the two tables of the first
    layer and the output bias. -/
def logits (bd : FVec F S25600x25 .fp8e4m3) (ops : FVec F S512x1024 .bf16) (macs : FVec F S200x1024 .bf16) (b2 : FVec F S1x1 .f32) : FVec F S512x50 .f32 :=
  addf
    (mulf
      (concatenate S512x50 1
        [⟨S512x25, matmul dot_S512x25600_S25600x25_S512x25_1_0_0_1_n_n none (half ops macs 0) bd (constant S512x25 .f32 0x00000000#32)⟩,
         ⟨S512x25, matmul dot_S512x25600_S25600x25_S512x25_1_0_0_1_n_n none (half ops macs 1) bd (constant S512x25 .f32 0x00000000#32)⟩]
        concatenates_S512x25_S512x25_S512x50_d1)
      (broadcast S512x50 (Scalar.ofBits .f32 0x3C800000#32)))
    (broadcastTo S512x50 (shapeCast S1x1 b2 shapeCasts_S1x1_S1x1) broadcasts_S1x1_S512x50)

set_option maxRecDepth 100000 in
set_option maxHeartbeats 4000000 in
/-- The kernel's logits, strip by strip as it writes them, are that table. -/
theorem pay520_eq (x0 : Vec F S4x256 .f32) (x1 : Vec F S512x256 .f32) (x2 : Vec F S200x256 .f32) (x3 : Vec F S128x4 .f32)
    (x4 : Vec F S512x50 .f32) (x5 : Vec F S1024x768 .f32) (x6 : Vec F S1x1024 .f32) (x7 : Vec F S1024x1 .f32) (x8 : Vec F S1x1 .f32) :
    k0_pay520 x0 x1 x2 x3 x4 x5 x6 x7 x8
      = logits (k0_pay517 x0 x1 x2 x3 x4 x5 x6 x7 x8) (k0_pay518 x0 x1 x2 x3 x4 x5 x6 x7 x8)
          (k0_pay519 x0 x1 x2 x3 x4 x5 x6 x7 x8) (View.ld x8 r0_8) := by
  rfl

end Cert.Proof.Blocks

end
-- ==== Proof.KernelActs.lean ====
/- What the kernel's first layer and its block-diagonal second layer hold, entry by entry, over the ideal numbers. -/
module

public import proofs.«01_k».proof.Proof.KernelBlocks
public import Idealize.ShloMosaic.Lib.Pointwise
public import Idealize.ShloMosaic.Lib.Pipeline.Value
public import Idealize.ShloMosaic.Lib.Routing.Words

@[expose] public section

set_option maxRecDepth 16384

noncomputable section

namespace Cert.Proof.Blocks

open Idealize.ShloMosaic Cert.KernelIdeal Cert.KernelIdeal.Gen

/-- One entry of one batch's activations. -/
theorem act_apply (ops : FVec Ideal S512x1024 .bf16) (macs : FVec Ideal S200x1024 .bf16) (b q : Fin 4) (j : Fin 50)
    (i : Fin 128) (k : Fin 256) :
    act ops macs b q j (ix2 i k)
      = max ((ops (ix2 ⟨128 * b.val + i.val, by omega⟩ ⟨256 * q.val + k.val, by omega⟩) : EReal)
          + macs (ix2 ⟨50 * b.val + j.val, by omega⟩ ⟨256 * q.val + k.val, by omega⟩)) 0 := by
  pointwise [act]

/-- One entry of a strip: row `r` belongs to batch `r / 128`. -/
theorem strip_apply (ops : FVec Ideal S512x1024 .bf16) (macs : FVec Ideal S200x1024 .bf16) (q : Fin 4) (j : Fin 50)
    (b : Fin 4) (i : Fin 128) (k : Fin 256) :
    strip ops macs q j (ix2 ⟨128 * b.val + i.val, by omega⟩ k) = act ops macs b q j (ix2 i k) := by
  have e : strip ops macs q j = concatenate S512x256 0
      (List.ofFn fun n : Fin 4 => (⟨S128x256, act ops macs n q j⟩ : (s : Shape) × (s.Idx → Ideal .fp8e4m3)))
      concatenates_S128x256_S128x256_S128x256_S128x256_S512x256_d0 := rfl
  rw [e]
  refine concatenate_ofFn_apply (t := S512x256) (s₁ := S128x256) 0 (fun n => act ops macs n q j) _ rfl 128 rfl _ b ?_ (ix2 i k) ?_ ?_
  · show (128 * b.val + i.val) / 128 = b.val
    omega
  · show i.val = (128 * b.val + i.val) % 128
    omega
  · intro a ha
    fin_cases a
    · exact absurd rfl ha
    · rfl

/-- One entry of a half's table: column `K` is hidden unit `K % 1024` of the half's machine `K / 1024`. -/
theorem half_apply (ops : FVec Ideal S512x1024 .bf16) (macs : FVec Ideal S200x1024 .bf16) (g : Fin 2)
    (b : Fin 4) (i : Fin 128) (c : Fin 25) (k : Fin 1024) :
    half ops macs g (ix2 ⟨128 * b.val + i.val, by omega⟩ ⟨1024 * c.val + k.val, by omega⟩)
      = max ((ops (ix2 ⟨128 * b.val + i.val, by omega⟩ k) : EReal)
          + macs (ix2 ⟨50 * b.val + (25 * g.val + c.val), by omega⟩ k)) 0 := by
  unfold half
  rw [concatenate_ofFn_apply (t := S512x25600) (s₁ := S512x256) 1 (halfStrip ops macs g) _ rfl 256 rfl _
    ⟨4 * c.val + k.val / 256, by omega⟩ (by show (1024 * c.val + k.val) / 256 = 4 * c.val + k.val / 256; omega)
    (ix2 ⟨128 * b.val + i.val, by omega⟩ ⟨k.val % 256, by omega⟩)
    (by show k.val % 256 = (1024 * c.val + k.val) % 256; omega)
    (by
      intro a ha
      fin_cases a
      · rfl
      · exact absurd rfl ha)]
  unfold halfStrip
  rw [strip_apply, act_apply]
  have hq : (4 * c.val + k.val / 256) % 4 = k.val / 256 := by omega
  have hc : (4 * c.val + k.val / 256) / 4 = c.val := by omega
  have hk : 256 * (k.val / 256) + k.val % 256 = k.val := by omega
  simp only [hq, hc, hk]

/-! ## The first layer's tables -/

/-- The operator table: an operator's embedding against the middle third of the first layer's weights. -/
theorem ops_apply (w1 : FVec Ideal S1024x768 .f32) (x : FVec Ideal S512x256 .f32) (r : Fin 512) (k : Fin 1024) :
    (k0_pay7 (F := Ideal) (View.ld w1 r0_1) x (ix2 r k) : EReal)
      = ∑ a : Fin 256, (x (ix2 r a) : EReal) * w1 (ix2 k ⟨256 + a.val, by omega⟩) := by
  pointwise [k0_pay7]

/-- The machine table: a machine's embedding against the last third, plus its batch's graph embedding against the first
    third and the bias. -/
theorem macs_apply (w1 : FVec Ideal S1024x768 .f32) (b1 : FVec Ideal S1x1024 .f32) (g : FVec Ideal S4x256 .f32)
    (x : FVec Ideal S200x256 .f32) (b : Fin 4) (j : Fin 50) (k : Fin 1024) :
    (k0_pay8 (F := Ideal) (View.ld w1 r0_0) (View.ld w1 r0_2) (k0_pay4 b1) g x (ix2 ⟨50 * b.val + j.val, by omega⟩ k) : EReal)
      = (∑ a : Fin 256, (x (ix2 ⟨50 * b.val + j.val, by omega⟩ a) : EReal) * w1 (ix2 k ⟨512 + a.val, by omega⟩))
        + ((∑ a : Fin 256, (g (ix2 b a) : EReal) * w1 (ix2 k ⟨a.val, by omega⟩)) + b1 (ix2 0 k)) := by
  pointwise [k0_pay8, k0_pay4]
  congr 1
  fin_cases b <;> simp <;> split_ifs <;> first | rfl | omega

/-! ## The block-diagonal second layer -/

/-- The row number divided by 1024 and rounded down, as the kernel writes it: the machine quotient, less one where the
    signs of row and divisor differ and the division leaves a rest. -/
def rowBlock : IVec S25600x25 32 :=
  select
    (andi
      (cmpi .ne
        (subi (extui 32 (cmpi .sgt (iota .tc S25600x25 32 [0] iota_S25600x25_d0_w32) (broadcast S25600x25 0#32)) natLt_1_32)
          (extui 32 (cmpi .slt (iota .tc S25600x25 32 [0] iota_S25600x25_d0_w32) (broadcast S25600x25 0#32)) natLt_1_32))
        (broadcast S25600x25 (Scalar.subi (Scalar.extui (Scalar.cmpi .sgt 1024#32 0#32)) (Scalar.extui (Scalar.cmpi .slt 1024#32 0#32)))))
      (cmpi .ne (remsi (iota .tc S25600x25 32 [0] iota_S25600x25_d0_w32) (broadcast S25600x25 1024#32)) (broadcast S25600x25 0#32)))
    (subi (divsi (iota .tc S25600x25 32 [0] iota_S25600x25_d0_w32) (broadcast S25600x25 1024#32)) (broadcast S25600x25 1#32))
    (divsi (iota .tc S25600x25 32 [0] iota_S25600x25_d0_w32) (broadcast S25600x25 1024#32))

/-- No row number is negative, so the rounded quotient is the plain one. -/
theorem rowBlock_apply (n : Fin 25600) (d : Fin 25) : rowBlock (ix2 n d) = BitVec.ofNat 32 (n.val / 1024) := by
  pointwise [rowBlock]
  rw [show (1024#32 : BitVec 32) = BitVec.ofNat 32 1024 from rfl, Routing.divsi_word _ (by omega) (by decide) (by decide),
    Routing.remsi_word _ (by omega) (by decide) (by decide)]
  rcases Nat.eq_zero_or_pos n.val with h | h
  · rw [h]; decide
  · have h1 : IntOp.cmpi .sgt (BitVec.ofNat 32 n.val) 0#32 = 1#1 := by
      show BitVec.ofBool ((0#32 : BitVec 32).slt (BitVec.ofNat 32 n.val)) = 1#1
      rw [show (0#32 : BitVec 32) = BitVec.ofNat 32 0 from rfl, Routing.slt_ofNat32 (by decide) (by omega)]
      simp [h]
    have h2 : IntOp.cmpi .slt (BitVec.ofNat 32 n.val) 0#32 = 0#1 := by
      show BitVec.ofBool ((BitVec.ofNat 32 n.val).slt (0#32 : BitVec 32)) = 0#1
      rw [show (0#32 : BitVec 32) = BitVec.ofNat 32 0 from rfl, Routing.slt_ofNat32 (by omega) (by decide)]
      simp
    rw [h1, h2, show IntOp.cmpi .ne (IntOp.subi (BitVec.setWidth 32 1#1) (BitVec.setWidth 32 0#1))
      (Scalar.subi (Scalar.extui (Scalar.cmpi CmpIPredicate.sgt (BitVec.ofNat 32 1024) 0#32))
        (Scalar.extui (Scalar.cmpi CmpIPredicate.slt (BitVec.ofNat 32 1024) 0#32))) = 0#1 from by decide]
    show Scalar.select (0#1 &&& _) _ _ = _
    rw [BitVec.zero_and]
    rfl

/-- Twenty-five columns of 1024 fill a column of 25600. -/
theorem columnsFill (f : Fin 25 → FVec Ideal S1024x1 .f32) :
    Shape.Concatenates ((List.ofFn fun n : Fin 25 => (⟨S1024x1, f n⟩ : (s : Shape) × (s.Idx → Ideal .f32))).map (·.1)) S25600x1 0 := by
  rw [List.map_ofFn]
  exact concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S25600x1_d0

/-- The output weights, one copy under the other, a copy for every machine of a half. -/
def stacked (w : FVec Ideal S1024x1 .f32) : FVec Ideal S25600x1 .f32 :=
  concatenate S25600x1 0 (List.ofFn fun _ : Fin 25 => (⟨S1024x1, w⟩ : (s : Shape) × (s.Idx → Ideal .f32))) (columnsFill fun _ => w)

/-- One entry of the stacked weights. -/
theorem stacked_apply (w : FVec Ideal S1024x1 .f32) (c : Fin 25) (k : Fin 1024) :
    stacked w (ix2 ⟨1024 * c.val + k.val, by omega⟩ 0) = w (ix2 k 0) := by
  unfold stacked
  refine concatenate_ofFn_apply (t := S25600x1) (s₁ := S1024x1) 0 (fun _ : Fin 25 => w) _ rfl 1024 rfl _ c ?_ (ix2 k 0) ?_ ?_
  · show (1024 * c.val + k.val) / 1024 = c.val
    omega
  · show k.val = (1024 * c.val + k.val) % 1024
    omega
  · intro a ha
    fin_cases a
    · exact absurd rfl ha
    · rfl

/-- The second layer of a half: the stacked weights times 64 on the blocks of the diagonal, zero elsewhere. -/
theorem pay5_eq (w : FVec Ideal S1024x1 .f32) :
    k0_pay5 w = select (cmpi .eq rowBlock (iota .tc S25600x25 32 [1] iota_S25600x25_d1_w32))
      (mulf (broadcastTo S25600x25 (shapeCast S25600x1 (stacked (shapeCast S1024x1 w shapeCasts_S1024x1_S1024x1)) shapeCasts_S25600x1_S25600x1)
          broadcasts_S25600x1_S25600x25)
        (broadcast S25600x25 (Scalar.ofBits .f32 0x42800000#32)))
      (broadcast S25600x25 (Scalar.ofBits .f32 0x00000000#32)) := rfl

/-- One entry of the second layer: row `1024 c + k` meets column `d` only when `c` is `d`. -/
theorem diag_apply (w : FVec Ideal S1024x1 .f32) (c d : Fin 25) (k : Fin 1024) :
    (k0_pay6 (F := Ideal) (k0_pay5 w) (ix2 ⟨1024 * c.val + k.val, by omega⟩ d) : EReal)
      = if c = d then (w (ix2 k 0) : EReal) * Ideal.ofBits .f32 0x42800000#32 else 0 := by
  rw [pay5_eq]
  pointwise [k0_pay6]
  rw [rowBlock_apply, stacked_apply, show (1024 * c.val + k.val) / 1024 = c.val by omega]
  by_cases h : c = d
  · subst h
    rw [if_pos rfl, show IntOp.cmpi .eq (BitVec.ofNat 32 c.val) (BitVec.ofNat 32 c.val) = 1#1 from by
      show BitVec.ofBool (BitVec.ofNat 32 c.val == BitVec.ofNat 32 c.val) = 1#1
      simp]
    rfl
  · have hne : IntOp.cmpi .eq (BitVec.ofNat 32 c.val) (BitVec.ofNat 32 d.val) = 0#1 := by
      revert h
      revert c d
      decide
    rw [if_neg h, hne]
    rfl

end Cert.Proof.Blocks

end
-- ==== Proof.KernelLogits.lean ====
/- The kernel's logits on finite inputs: the scale by 64 and its inverse cancel, the block-diagonal product keeps one
   machine's hidden units, and what is left is the network's logit. -/
module

public import proofs.«01_k».proof.Proof.KernelActs
public import proofs.«01_k».proof.Proof.Policy

@[expose] public section

set_option maxRecDepth 16384

noncomputable section

namespace Cert.Proof.Blocks

open Idealize.ShloMosaic Cert.KernelIdeal Cert.KernelIdeal.Gen Cert.Proof.Policy

/-- The kernel's input blocks hold the network `N`, each laid out as the kernel is handed it. -/
structure Holds (N : Net) (x0 : Vec Ideal S4x256 .f32) (x1 : Vec Ideal S512x256 .f32) (x2 : Vec Ideal S200x256 .f32)
    (x5 : Vec Ideal S1024x768 .f32) (x6 : Vec Ideal S1x1024 .f32) (x7 : Vec Ideal S1024x1 .f32) (x8 : Vec Ideal S1x1 .f32) : Prop where
  graph : ∀ b a, x0 (ix2 b a) = ((N.graph b a : ℝ) : EReal)
  op : ∀ (b : Fin 4) (i : Fin 128) a, x1 (ix2 ⟨128 * b.val + i.val, by omega⟩ a) = ((N.op b i a : ℝ) : EReal)
  mac : ∀ (b : Fin 4) (j : Fin 50) a, x2 (ix2 ⟨50 * b.val + j.val, by omega⟩ a) = ((N.mac b j a : ℝ) : EReal)
  W1 : ∀ k a, x5 (ix2 k a) = ((N.W1 k a : ℝ) : EReal)
  b1 : ∀ k, x6 (ix2 0 k) = ((N.b1 k : ℝ) : EReal)
  w2 : ∀ k, x7 (ix2 k 0) = ((N.w2 k : ℝ) : EReal)
  b2 : x8 (ix2 0 0) = ((N.b2 : ℝ) : EReal)

section
variable {N : Net} {x0 : Vec Ideal S4x256 .f32} {x1 : Vec Ideal S512x256 .f32} {x2 : Vec Ideal S200x256 .f32}
    {x5 : Vec Ideal S1024x768 .f32} {x6 : Vec Ideal S1x1024 .f32} {x7 : Vec Ideal S1024x1 .f32} {x8 : Vec Ideal S1x1 .f32}

/-- The sum of the two tables' entries is the pre-activation. -/
theorem tables_sum (H : Holds N x0 x1 x2 x5 x6 x7 x8) (b : Fin 4) (i : Fin 128) (j : Fin 50) (k : Fin 1024) :
    (k0_pay7 (F := Ideal) (View.ld x5 r0_1) x1 (ix2 ⟨128 * b.val + i.val, by omega⟩ k) : EReal)
        + k0_pay8 (F := Ideal) (View.ld x5 r0_0) (View.ld x5 r0_2) (k0_pay4 x6) x0 x2 (ix2 ⟨50 * b.val + j.val, by omega⟩ k)
      = ((N.pre b i j k : ℝ) : EReal) := by
  rw [ops_apply, macs_apply]
  simp only [H.graph, H.op, H.mac, H.W1, H.b1, ← EReal.coe_mul, ← coe_sum, ← EReal.coe_add]
  congr 1
  unfold Net.pre
  ring

/-- One half's product with the block-diagonal second layer: the pair's weighted activations, scaled by 64. -/
theorem half_dot (H : Holds N x0 x1 x2 x5 x6 x7 x8) (g : Fin 2) (b : Fin 4) (i : Fin 128) (d : Fin 25) :
    (matmul (F := Ideal) dot_S512x25600_S25600x25_S512x25_1_0_0_1_n_n none
        (half (k0_pay7 (View.ld x5 r0_1) x1) (k0_pay8 (View.ld x5 r0_0) (View.ld x5 r0_2) (k0_pay4 x6) x0 x2) g)
        (k0_pay6 (k0_pay5 x7)) (constant S512x25 .f32 0x00000000#32) (ix2 ⟨128 * b.val + i.val, by omega⟩ d) : EReal)
      = ((∑ k : Fin 1024, max (N.pre b i ⟨25 * g.val + d.val, by omega⟩ k) 0 * (N.w2 k * 64) : ℝ) : EReal) := by
  pointwise
  rw [sum_blocks 25 1024, Finset.sum_eq_single d]
  · rw [coe_sum]
    refine Finset.sum_congr rfl fun k _ => ?_
    rw [half_apply, diag_apply, if_pos rfl, tables_sum H b i ⟨25 * g.val + d.val, by omega⟩ k, H.w2, word_64, EReal.coe_mul,
      EReal.coe_mul, coe_max, EReal.coe_zero]
  · intro c _ hc
    refine Finset.sum_eq_zero fun k _ => ?_
    rw [diag_apply, if_neg hc, mul_zero]
  · exact fun h => absurd (Finset.mem_univ d) h

/-- The kernel's logit of a pair is the network's. -/
theorem logits_apply (H : Holds N x0 x1 x2 x5 x6 x7 x8) (b : Fin 4) (i : Fin 128) (j : Fin 50) :
    (logits (F := Ideal) (k0_pay6 (k0_pay5 x7)) (k0_pay7 (View.ld x5 r0_1) x1)
        (k0_pay8 (View.ld x5 r0_0) (View.ld x5 r0_2) (k0_pay4 x6) x0 x2) x8 (ix2 ⟨128 * b.val + i.val, by omega⟩ j) : EReal)
      = ((N.logit b i j : ℝ) : EReal) := by
  have key : ∀ (g : Fin 2) (d : Fin 25), 25 * g.val + d.val = j.val →
      ((∑ k : Fin 1024, max (N.pre b i ⟨25 * g.val + d.val, by omega⟩ k) 0 * (N.w2 k * 64) : ℝ) : EReal) * ((1 / 64 : ℝ) : EReal)
        + ((N.b2 : ℝ) : EReal) = ((N.logit b i j : ℝ) : EReal) := by
    intro g d h
    have hj : (⟨25 * g.val + d.val, by omega⟩ : Fin 50) = j := Fin.ext h
    rw [hj, ← EReal.coe_mul, ← EReal.coe_add]
    congr 1
    unfold Net.logit
    rw [Finset.sum_mul]
    congr 1
    exact Finset.sum_congr rfl fun k _ => by ring
  unfold logits
  generalize hm0 : matmul (F := Ideal) dot_S512x25600_S25600x25_S512x25_1_0_0_1_n_n none (half _ _ 0) _ _ = m0
  generalize hm1 : matmul (F := Ideal) dot_S512x25600_S25600x25_S512x25_1_0_0_1_n_n none (half _ _ 1) _ _ = m1
  pointwise
  rw [word_64th, H.b2]
  by_cases hj : j.val < 25
  · rw [dif_pos hj, ← hm0, half_dot H 0 b i ⟨j.val, hj⟩]
    exact key 0 ⟨j.val, hj⟩ (by simp)
  · rw [dif_neg hj, ← hm1, half_dot H 1 b i ⟨j.val - 25, by omega⟩]
    exact key 1 ⟨j.val - 25, by omega⟩ (by simp; omega)

end

end Cert.Proof.Blocks

end
-- ==== Proof.KernelSoftmax.lean ====
/- The kernel's masking and its softmax: from logits that are reals to the normalised exponentials of each batch. -/
module

public import proofs.«01_k».proof.Proof.KernelLogits

@[expose] public section

set_option maxRecDepth 16384

noncomputable section

namespace Cert.Proof.Blocks

open Idealize.ShloMosaic Cert.KernelIdeal Cert.KernelIdeal.Gen Cert.Proof.Policy

/-- Choosing by two tests at once. -/
theorem both_select {α : Type} (p q : Prop) [Decidable p] [Decidable q] [Decidable (p ∧ q)] (u v : α) :
    Scalar.select (IntOp.andi (BitVec.ofBool (decide p)) (BitVec.ofBool (decide q))) u v = if p ∧ q then u else v := by
  by_cases hp : p <;> by_cases hq : q <;> simp only [hp, hq, decide_true, decide_false, if_true, if_false, and_true, and_false, true_and, false_and] <;> rfl

/-- Four columns of 128 entries one under the other, read at batch `b`'s entry `i`. -/
theorem chain_pick {α : Type} (f : Fin 128 → Fin 4 → α) (b : Fin 4) (i : Fin 128) :
    (if h : 128 * b.val + i.val < 128 then f ⟨128 * b.val + i.val, h⟩ 0
      else if h : 128 * b.val + i.val - 128 < 128 then f ⟨128 * b.val + i.val - 128, h⟩ 1
      else if h : 128 * b.val + i.val - 128 - 128 < 128 then f ⟨128 * b.val + i.val - 128 - 128, h⟩ 2
      else f ⟨128 * b.val + i.val - 128 - 128 - 128, by omega⟩ 3) = f i b := by
  fin_cases b <;> simp <;> split_ifs <;> first | omega | (congr 1; apply Fin.ext; simp; omega)

/-- The masked table's entry. -/
theorem masked_apply (lg : FVec Ideal S512x50 .f32) (x3 : Vec Ideal S128x4 .f32) (x4 : Vec Ideal S512x50 .f32)
    (l : Fin 4 → Fin 128 → Fin 50 → ℝ) (hl : ∀ b (i : Fin 128) j, lg (ix2 ⟨128 * b.val + i.val, by omega⟩ j) = ((l b i j : ℝ) : EReal))
    (b : Fin 4) (i : Fin 128) (j : Fin 50) [Decidable ((0 : EReal) < x3 (ix2 i b) ∧ (0 : EReal) < x4 (ix2 ⟨128 * b.val + i.val, by omega⟩ j))] :
    (k0_pay507 (F := Ideal) lg (View.ld x3 r0_9) (View.ld x3 r0_10) (View.ld x3 r0_11) (View.ld x3 r0_12) x4
        (ix2 ⟨128 * b.val + i.val, by omega⟩ j) : EReal)
      = ((if (0 : EReal) < x3 (ix2 i b) ∧ (0 : EReal) < x4 (ix2 ⟨128 * b.val + i.val, by omega⟩ j) then l b i j else masked : ℝ) : EReal) := by
  rw [apply_ite (fun r : ℝ => (r : EReal)), ← hl, ← word_masked]
  classical
  rw [← both_select]
  pointwise [k0_pay507]
  have e := chain_pick (fun i b => x3 (ix2 i b)) b i
  beta_reduce at e
  rw [e]

/-- A batch's maximum is a real. -/
theorem max_real (t : FVec Ideal S128x50 .f32) (l : Fin 128 → Fin 50 → ℝ) (hl : ∀ i j, t (ix2 i j) = ((l i j : ℝ) : EReal)) :
    ∃ c : ℝ, (extractAt ![0, 0, 0] (shapeCast S1x1x1 (multiReduction (F := Ideal) .maximumf [1, 2] S1 (shapeCast S1x128x50 t shapeCasts_S128x50_S1x128x50)
      0xFF800000#32 reduces_S1x128x50_S1 (.inl rfl) rfl) shapeCasts_S1_S1x1x1) inpos_S1x1x1_p0_0_0 : EReal) = (c : EReal) := by
  pointwise
  simp only [hl, word_bot]
  exact fold_max_real Finset.univ Finset.univ_nonempty fun x : Fin 128 × Fin 50 => l x.1 x.2

/-- A batch's normaliser. -/
theorem sum_real (t : FVec Ideal S128x50 .f32) (l : Fin 128 → Fin 50 → ℝ) (hl : ∀ i j, t (ix2 i j) = ((l i j : ℝ) : EReal)) :
    (extractAt ![0, 0, 0] (shapeCast S1x1x1 (multiReduction (F := Ideal) .add [1, 2] S1 (shapeCast S1x128x50 t shapeCasts_S128x50_S1x128x50)
      0x00000000#32 reduces_S1x128x50_S1 (.inl rfl) rfl) shapeCasts_S1_S1x1x1) inpos_S1x1x1_p0_0_0 : EReal) = ((∑ i, ∑ j, l i j : ℝ) : EReal) := by
  pointwise
  simp only [hl, coe_sum]

/-- The exponentials of the masked logits, each less its batch's maximum. -/
def expTable (t : FVec Ideal S512x50 .f32) (s2 s3 : Ideal .f32) (c0 c1 : FVec Ideal S128x1 .f32) : FVec Ideal S512x50 .f32 :=
  exp (subf t (broadcastTo S512x50
    (concatenate S512x1 0 [⟨S128x1, c0⟩, ⟨S128x1, c1⟩,
      ⟨S128x1, broadcastTo S128x1 (shapeCast S1x1 (broadcast S1x1 s2) shapeCasts_S1x1_S1x1) broadcasts_S1x1_S128x1⟩,
      ⟨S128x1, broadcastTo S128x1 (shapeCast S1x1 (broadcast S1x1 s3) shapeCasts_S1x1_S1x1) broadcasts_S1x1_S128x1⟩]
      concatenates_S128x1_S128x1_S128x1_S128x1_S512x1_d0)
    broadcasts_S512x1_S512x50))

/-- One over the sum of a window of 128 rows, as a column of 128 equal entries. -/
def invColumn (w : FVec Ideal S128x50 .f32) : FVec Ideal S128x1 .f32 :=
  broadcastTo S128x1 (shapeCast S1x1 (broadcast S1x1 (Scalar.divf (Scalar.ofBits .f32 0x3F800000#32)
    (extractAt ![0, 0, 0] (shapeCast S1x1x1 (multiReduction .add [1, 2] S1 (shapeCast S1x128x50 w shapeCasts_S128x50_S1x128x50)
      0x00000000#32 reduces_S1x128x50_S1 (.inl rfl) rfl) shapeCasts_S1_S1x1x1) inpos_S1x1x1_p0_0_0)))
    shapeCasts_S1x1_S1x1) broadcasts_S1x1_S128x1

/-- The kernel's probabilities: the exponentials times their batch's inverse sum. -/
theorem pay512_eq (t : FVec Ideal S512x50 .f32) (s2 s3 : Ideal .f32) (c0 c1 : FVec Ideal S128x1 .f32) :
    k0_pay512 t s2 s3 c0 c1 = mulf (expTable t s2 s3 c0 c1) (broadcastTo S512x50
      (concatenate S512x1 0
        [⟨S128x1, invColumn (extractStridedSlice S128x50 ![0, 0] (expTable t s2 s3 c0 c1) slices_S512x50_o0_0_S128x50)⟩,
         ⟨S128x1, invColumn (extractStridedSlice S128x50 ![128, 0] (expTable t s2 s3 c0 c1) slices_S512x50_o128_0_S128x50)⟩,
         ⟨S128x1, invColumn (extractStridedSlice S128x50 ![256, 0] (expTable t s2 s3 c0 c1) slices_S512x50_o256_0_S128x50)⟩,
         ⟨S128x1, invColumn (extractStridedSlice S128x50 ![384, 0] (expTable t s2 s3 c0 c1) slices_S512x50_o384_0_S128x50)⟩]
        concatenates_S128x1_S128x1_S128x1_S128x1_S512x1_d0)
      broadcasts_S512x1_S512x50) := rfl

/-- One entry of the exponentials, when the logits and the four maxima are reals. -/
theorem expTable_apply (t : FVec Ideal S512x50 .f32) (s2 s3 : Ideal .f32) (c0 c1 : FVec Ideal S128x1 .f32)
    (l : Fin 4 → Fin 128 → Fin 50 → ℝ) (c : Fin 4 → ℝ)
    (ht : ∀ b (i : Fin 128) j, t (ix2 ⟨128 * b.val + i.val, by omega⟩ j) = ((l b i j : ℝ) : EReal))
    (h0 : ∀ i, c0 (ix2 i 0) = ((c 0 : ℝ) : EReal)) (h1 : ∀ i, c1 (ix2 i 0) = ((c 1 : ℝ) : EReal))
    (h2 : s2 = ((c 2 : ℝ) : EReal)) (h3 : s3 = ((c 3 : ℝ) : EReal)) (b : Fin 4) (i : Fin 128) (j : Fin 50) :
    expTable t s2 s3 c0 c1 (ix2 ⟨128 * b.val + i.val, by omega⟩ j) = ((Real.exp (l b i j - c b) : ℝ) : EReal) := by
  pointwise [expTable]
  have e := chain_pick (fun _ b => ((c b : ℝ) : EReal)) b i
  beta_reduce at e
  simp only [h0, h1, h2, h3]
  rw [e, ht, ← EReal.coe_sub, Ideal.exp_coe]

/-- One entry of an inverse column. -/
theorem invColumn_apply (w : FVec Ideal S128x50 .f32) (l : Fin 128 → Fin 50 → ℝ) (hl : ∀ i j, w (ix2 i j) = ((l i j : ℝ) : EReal))
    (hn : (∑ i, ∑ j, l i j) ≠ 0) (i : Fin 128) :
    invColumn w (ix2 i 0) = (((∑ i, ∑ j, l i j)⁻¹ : ℝ) : EReal) := by
  have e : invColumn w (ix2 i 0) = Ideal.div (1 : EReal) ((∑ i, ∑ j, l i j : ℝ) : EReal) := by
    rw [← sum_real w l hl]
    pointwise [invColumn]
  rw [e, ← EReal.coe_one, div_real _ hn, one_div]

/-- The kernel's probability of a pair is the normalised exponential. -/
theorem pay512_apply (t : FVec Ideal S512x50 .f32) (s2 s3 : Ideal .f32) (c0 c1 : FVec Ideal S128x1 .f32)
    (l : Fin 4 → Fin 128 → Fin 50 → ℝ) (c : Fin 4 → ℝ)
    (ht : ∀ b (i : Fin 128) j, t (ix2 ⟨128 * b.val + i.val, by omega⟩ j) = ((l b i j : ℝ) : EReal))
    (h0 : ∀ i, c0 (ix2 i 0) = ((c 0 : ℝ) : EReal)) (h1 : ∀ i, c1 (ix2 i 0) = ((c 1 : ℝ) : EReal))
    (h2 : s2 = ((c 2 : ℝ) : EReal)) (h3 : s3 = ((c 3 : ℝ) : EReal)) (b : Fin 4) (i : Fin 128) (j : Fin 50) :
    k0_pay512 t s2 s3 c0 c1 (ix2 ⟨128 * b.val + i.val, by omega⟩ j) = ((soft (l b) i j : ℝ) : EReal) := by
  have he := expTable_apply t s2 s3 c0 c1 l c ht h0 h1 h2 h3
  rw [pay512_eq]
  generalize expTable t s2 s3 c0 c1 = e at he ⊢
  have col : ∀ (b : Fin 4) (w : FVec Ideal S128x50 .f32), (∀ i j, w (ix2 i j) = e (ix2 ⟨128 * b.val + i.val, by omega⟩ j)) →
      ∀ i, invColumn w (ix2 i 0) = (((∑ p : Fin 128, ∑ q : Fin 50, Real.exp (l b p q - c b))⁻¹ : ℝ) : EReal) := by
    intro b w hw i
    exact invColumn_apply w (fun p q => Real.exp (l b p q - c b)) (fun p q => (hw p q).trans (he b p q)) (norm_pos (l b) (c b)).ne' i
  have w0 := col 0 (extractStridedSlice S128x50 ![0, 0] e slices_S512x50_o0_0_S128x50) (fun p q => by pointwise)
  have w1 := col 1 (extractStridedSlice S128x50 ![128, 0] e slices_S512x50_o128_0_S128x50) (fun p q => by pointwise)
  have w2 := col 2 (extractStridedSlice S128x50 ![256, 0] e slices_S512x50_o256_0_S128x50) (fun p q => by pointwise)
  have w3 := col 3 (extractStridedSlice S128x50 ![384, 0] e slices_S512x50_o384_0_S128x50) (fun p q => by pointwise)
  generalize invColumn (extractStridedSlice S128x50 ![0, 0] e slices_S512x50_o0_0_S128x50) = v0 at w0 ⊢
  generalize invColumn (extractStridedSlice S128x50 ![128, 0] e slices_S512x50_o128_0_S128x50) = v1 at w1 ⊢
  generalize invColumn (extractStridedSlice S128x50 ![256, 0] e slices_S512x50_o256_0_S128x50) = v2 at w2 ⊢
  generalize invColumn (extractStridedSlice S128x50 ![384, 0] e slices_S512x50_o384_0_S128x50) = v3 at w3 ⊢
  pointwise
  have k := chain_pick (fun _ b => (((∑ p : Fin 128, ∑ q : Fin 50, Real.exp (l b p q - c b))⁻¹ : ℝ) : EReal)) b i
  beta_reduce at k
  simp only [w0, w1, w2, w3]
  rw [k, he, ← EReal.coe_mul, ← div_eq_mul_inv, soft_shift]

end Cert.Proof.Blocks

end
-- ==== Proof.KernelOut.lean ====
/- What the kernel's body leaves in its output block: batch by batch, the probabilities of the pairs. -/
module

public import proofs.«01_k».proof.Proof.KernelSoftmax
public import Idealize.ShloMosaic.Lib.Pipeline.ValueKit

@[expose] public section

set_option maxRecDepth 16384

noncomputable section

namespace Cert.Proof.Blocks

open Idealize.ShloMosaic Cert.KernelIdeal Cert.KernelIdeal.Gen Cert.Proof.Policy

variable {N : Net} {x0 : Vec Ideal S4x256 .f32} {x1 : Vec Ideal S512x256 .f32} {x2 : Vec Ideal S200x256 .f32}
    {x5 : Vec Ideal S1024x768 .f32} {x6 : Vec Ideal S1x1024 .f32} {x7 : Vec Ideal S1024x1 .f32} {x8 : Vec Ideal S1x1 .f32}

/-- The table of logits the body computes. -/
theorem table_apply (H : Holds N x0 x1 x2 x5 x6 x7 x8) (x3 : Vec Ideal S128x4 .f32) (x4 : Vec Ideal S512x50 .f32)
    (b : Fin 4) (i : Fin 128) (j : Fin 50) :
    (k0_pay520 x0 x1 x2 x3 x4 x5 x6 x7 x8 (ix2 ⟨128 * b.val + i.val, by omega⟩ j) : EReal) = ((N.logit b i j : ℝ) : EReal) := by
  rw [pay520_eq, k0_pay517, k0_pay518, k0_pay519, k0_pay516,
    View.ld_unit_lit inb_S1024x1_S1024x1_0_0 x7 (by decide), View.ld_unit_lit inb_S512x256_S512x256_0_0 x1 (by decide),
    View.ld_unit_lit inb_S1x1024_S1x1024_0_0 x6 (by decide), View.ld_unit_lit inb_S4x256_S4x256_0_0 x0 (by decide),
    View.ld_unit_lit inb_S200x256_S200x256_0_0 x2 (by decide), View.ld_unit_lit inb_S1x1_S1x1_0_0 x8 (by decide)]
  exact logits_apply H b i j

/-- The masked logits of the blocks' network and masks. -/
def blockLogit (N : Net) (x3 : Vec Ideal S128x4 .f32) (x4 : Vec Ideal S512x50 .f32) : Fin 4 → Fin 128 → Fin 50 → ℝ :=
  N.maskedLogit (fun b i => x3 (ix2 i b)) (fun b i j => x4 (ix2 ⟨128 * b.val + i.val, by omega⟩ j))

/-- The table after masking. -/
theorem maskedTable_apply (H : Holds N x0 x1 x2 x5 x6 x7 x8) (x3 : Vec Ideal S128x4 .f32) (x4 : Vec Ideal S512x50 .f32)
    (b : Fin 4) (i : Fin 128) (j : Fin 50) :
    (k0_pay521 x0 x1 x2 x3 x4 x5 x6 x7 x8 (ix2 ⟨128 * b.val + i.val, by omega⟩ j) : EReal)
      = ((blockLogit N x3 x4 b i j : ℝ) : EReal) := by
  classical
  rw [k0_pay521, View.ld_unit_lit inb_S512x50_S512x50_0_0 x4 (by decide),
    masked_apply _ x3 x4 N.logit (fun b i j => table_apply H x3 x4 b i j) b i j]
  rfl

/-- The maximum of a window of 128 rows. -/
def maxOf (w : FVec Ideal S128x50 .f32) : Ideal .f32 :=
  extractAt ![0, 0, 0] (shapeCast S1x1x1 (multiReduction (F := Ideal) .maximumf [1, 2] S1 (shapeCast S1x128x50 w shapeCasts_S128x50_S1x128x50)
      0xFF800000#32 reduces_S1x128x50_S1 (.inl rfl) rfl) shapeCasts_S1_S1x1x1) inpos_S1x1x1_p0_0_0

/-- Spread down a column. -/
def column (s : Ideal .f32) : FVec Ideal S128x1 .f32 :=
  broadcastTo S128x1 (shapeCast S1x1 (broadcast S1x1 s) shapeCasts_S1x1_S1x1) broadcasts_S1x1_S128x1

/-- Every entry of the column is the number spread. -/
theorem column_apply (s : Ideal .f32) (i : Fin 128) : column s (ix2 i 0) = s := by
  pointwise [column]

/-- The table of probabilities the body computes. -/
theorem probs_apply (H : Holds N x0 x1 x2 x5 x6 x7 x8) (x3 : Vec Ideal S128x4 .f32) (x4 : Vec Ideal S512x50 .f32)
    (b : Fin 4) (i : Fin 128) (j : Fin 50) :
    (k0_pay524 x0 x1 x2 x3 x4 x5 x6 x7 x8 (ix2 ⟨128 * b.val + i.val, by omega⟩ j) : EReal)
      = ((soft (blockLogit N x3 x4 b) i j : ℝ) : EReal) := by
  have ht := maskedTable_apply H x3 x4
  have e : k0_pay524 x0 x1 x2 x3 x4 x5 x6 x7 x8 = k0_pay512 (k0_pay521 x0 x1 x2 x3 x4 x5 x6 x7 x8)
      (maxOf (extractStridedSlice S128x50 ![256, 0] (k0_pay521 x0 x1 x2 x3 x4 x5 x6 x7 x8) slices_S512x50_o256_0_S128x50))
      (maxOf (extractStridedSlice S128x50 ![384, 0] (k0_pay521 x0 x1 x2 x3 x4 x5 x6 x7 x8) slices_S512x50_o384_0_S128x50))
      (column (maxOf (extractStridedSlice S128x50 ![0, 0] (k0_pay521 x0 x1 x2 x3 x4 x5 x6 x7 x8) slices_S512x50_o0_0_S128x50)))
      (column (maxOf (extractStridedSlice S128x50 ![128, 0] (k0_pay521 x0 x1 x2 x3 x4 x5 x6 x7 x8) slices_S512x50_o128_0_S128x50))) := rfl
  rw [e]
  generalize k0_pay521 x0 x1 x2 x3 x4 x5 x6 x7 x8 = t at ht
  have mx : ∀ (b : Fin 4) (w : FVec Ideal S128x50 .f32), (∀ i j, w (ix2 i j) = t (ix2 ⟨128 * b.val + i.val, by omega⟩ j)) →
      ∃ c : ℝ, maxOf w = (c : EReal) := fun b w hw =>
    max_real w (blockLogit N x3 x4 b) fun i j => (hw i j).trans (ht b i j)
  obtain ⟨m0, h0⟩ := mx 0 (extractStridedSlice S128x50 ![0, 0] t slices_S512x50_o0_0_S128x50) (fun p q => by pointwise)
  obtain ⟨m1, h1⟩ := mx 1 (extractStridedSlice S128x50 ![128, 0] t slices_S512x50_o128_0_S128x50) (fun p q => by pointwise)
  obtain ⟨m2, h2⟩ := mx 2 (extractStridedSlice S128x50 ![256, 0] t slices_S512x50_o256_0_S128x50) (fun p q => by pointwise)
  obtain ⟨m3, h3⟩ := mx 3 (extractStridedSlice S128x50 ![384, 0] t slices_S512x50_o384_0_S128x50) (fun p q => by pointwise)
  rw [h0, h1, h2, h3]
  exact pay512_apply t _ _ _ _ (blockLogit N x3 x4) ![m0, m1, m2, m3] ht (fun i => column_apply _ i) (fun i => column_apply _ i)
    rfl rfl b i j

/-- The output block. -/
theorem out_apply (H : Holds N x0 x1 x2 x5 x6 x7 x8) (x3 : Vec Ideal S128x4 .f32) (x4 : Vec Ideal S512x50 .f32)
    (b : Fin 4) (i : Fin 128) (j : Fin 50) :
    (out0_9 x0 x1 x2 x3 x4 x5 x6 x7 x8 (ix3 b i j) : EReal) = ((soft (blockLogit N x3 x4 b) i j : ℝ) : EReal) := by
  rw [← probs_apply H x3 x4 b i j]
  have e : k0_pay513 (k0_pay521 x0 x1 x2 x3 x4 x5 x6 x7 x8)
      (k0_pay508 (k0_pay520 x0 x1 x2 x3 x4 x5 x6 x7 x8) (View.ld x3 r0_9) (View.ld x3 r0_10) (View.ld x3 r0_11) (View.ld x3 r0_12) (View.ld x4 r0_13))
      (k0_pay509 (k0_pay520 x0 x1 x2 x3 x4 x5 x6 x7 x8) (View.ld x3 r0_9) (View.ld x3 r0_10) (View.ld x3 r0_11) (View.ld x3 r0_12) (View.ld x4 r0_13))
      (k0_pay522 x0 x1 x2 x3 x4 x5 x6 x7 x8) (k0_pay523 x0 x1 x2 x3 x4 x5 x6 x7 x8)
      = extractStridedSlice S128x50 ![0, 0] (k0_pay524 x0 x1 x2 x3 x4 x5 x6 x7 x8) slices_S512x50_o0_0_S128x50 := rfl
  rw [out0_9, e]
  generalize k0_pay524 x0 x1 x2 x3 x4 x5 x6 x7 x8 = p
  canon_tiles x h using cover0_9 ..
  all_goals
    obtain rfl : x = ix3 0 i j := by
      funext a; fin_cases a
      · exact Fin.ext (Nat.lt_one_iff.mp x0_lt)
      · exact Fin.ext h1.symm
      · exact Fin.ext h2.symm
    change b.val = _ at h0
    pointwise [k0_pay1, k0_pay2, k0_pay3, k0_pay514, k0_pay515]
    refine congrArg (fun r => p (ix2 r j)) (Fin.ext ?_)
    dsimp only
    omega

end Cert.Proof.Blocks

end
-- ==== Proof.KernelArray.lean ====
/- What the kernel's result holds: the probabilities of the network its arguments hold. -/
module

public import proofs.«01_k».proof.Proof.Inputs
public import proofs.«01_k».proof.Proof.KernelOut
public import Idealize.ShloMosaic.Lib.Pipeline.ValueKit
public import Idealize.ShloMosaic.Lib.Claim

@[expose] public section

set_option maxRecDepth 16384

noncomputable section

namespace Cert.Proof.KernelArray

open Idealize.ShloMosaic Idealize.ShloMosaic.TcCoe Idealize.SL.Sem
open Cert.KernelIdeal Cert.KernelIdeal.Gen Cert.Proof.Policy Cert.Proof.Blocks

variable (m : (ℓ : Loc nD τ sig) → Buf (Elt Ideal) ℓ) (ρ : Dev nD → PrngReg)

/-- Every window has one block, at the origin. -/
theorem origin : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] :=
  (by decide +kernel : ∀ t : Fin grid0.N, _)

/-- So every input's block is its array as the region finds it. -/
theorem blocks (c : Dev nD) : iblk m c 0 t0_0 = V m c main_arg0 ∧ iblk m c 1 t0_0 = V m c main_v0 ∧ iblk m c 2 t0_0 = V m c main_v1
    ∧ iblk m c 3 t0_0 = V m c main_v2 ∧ iblk m c 4 t0_0 = V m c main_v3 ∧ iblk m c 5 t0_0 = V m c main_arg5
    ∧ iblk m c 6 t0_0 = V m c main_v4 ∧ iblk m c 7 t0_0 = V m c main_v5 ∧ iblk m c 8 t0_0 = V m c main_v6 := by
  refine ⟨?_, ?_, ?_, ?_, ?_, ?_, ?_, ?_, ?_⟩ <;> blk_ext! [iblk, V, origin t0_0]

/-- The host operations before the region, as one list. -/
theorem flat : List.flatten [hostOps0 (F := Ideal)] = hostOps0 := rfl

/-- What the host operations lay out for the region: the operators', the machines' embeddings and the machines' mask with
    the batch joined to the next axis, the operators' mask with the batch last, the first bias as a row, the second
    layer's weights as a column, its bias as one entry. -/
theorem staged (c : Dev nD) :
    (∀ (b : Fin 4) (i : Fin 128) (a : Fin 256),
      V m c main_v0 (ix2 ⟨128 * b.val + i.val, by omega⟩ a) = m ((c : Thread nD τ).loc main_arg1) (ix3 b i a))
    ∧ (∀ (b : Fin 4) (j : Fin 50) (a : Fin 256),
      V m c main_v1 (ix2 ⟨50 * b.val + j.val, by omega⟩ a) = m ((c : Thread nD τ).loc main_arg2) (ix3 b j a))
    ∧ (∀ (b : Fin 4) (i : Fin 128), V m c main_v2 (ix2 i b) = m ((c : Thread nD τ).loc main_arg3) (ix2 b i))
    ∧ (∀ (b : Fin 4) (i : Fin 128) (j : Fin 50),
      V m c main_v3 (ix2 ⟨128 * b.val + i.val, by omega⟩ j) = m ((c : Thread nD τ).loc main_arg4) (ix3 b i j))
    ∧ (∀ k : Fin 1024, V m c main_v4 (ix2 0 k) = m ((c : Thread nD τ).loc main_arg6) (ix1 k))
    ∧ (∀ k : Fin 1024, V m c main_v5 (ix2 k 0) = m ((c : Thread nD τ).loc main_arg7) (ix2 0 k))
    ∧ V m c main_v6 (ix2 0 0) = m ((c : Thread nD τ).loc main_arg8) (ix1 0) := by
  dsimp only [V, V0]
  rw [flat]
  refine ⟨?_, ?_, ?_, ?_, ?_, ?_, ?_⟩ <;> intros <;> entry_read <;> pointwise

/-- The blocks hold the network the arguments hold. -/
theorem holds (c : Dev nD) {N : Net} (H : Inputs N (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg8))) :
    Holds N (V m c main_arg0) (V m c main_v0) (V m c main_v1) (V m c main_arg5) (V m c main_v4) (V m c main_v5) (V m c main_v6) where
  graph b a := (congrFun (V_main_arg0 m c) _).trans (H.graph b a)
  op b i a := ((staged m c).1 b i a).trans (H.op b i a)
  mac b j a := ((staged m c).2.1 b j a).trans (H.mac b j a)
  W1 k a := (congrFun (V_main_arg5 m c) _).trans (H.W1 k a)
  b1 k := ((staged m c).2.2.2.2.1 k).trans (H.b1 k)
  w2 k := ((staged m c).2.2.2.2.2.1 k).trans (H.w2 k)
  b2 := (staged m c).2.2.2.2.2.2.trans H.b2

/-- The output array after the launch. -/
theorem array_apply (c : Dev nD) {N : Net} (H : Inputs N (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg8))) :
    (dats m 0 c).arrAt 9 cfg0.N = fun x : S4x128x50.Idx =>
      ((soft (argLogit N (m ((c.tc : Thread nD τ).loc main_arg3)) (m ((c.tc : Thread nD τ).loc main_arg4)) (x 0)) (x 1) (x 2) : ℝ) : EReal) := by
  refine (dats m 0 c).arrAt_eq_of_after_last 9 t0_0 (by decide +kernel) _ fun j => ?_
  blk_simp [origin t0_0]
  rw [after0_9]
  obtain ⟨e0, e1, e2, e3, e4, e5, e6, e7, e8⟩ := blocks m c
  rw [e0, e1, e2, e3, e4, e5, e6, e7, e8]
  obtain ⟨b, p, q, rfl⟩ : ∃ b p q, j = ix3 b p q := ⟨j 0, j 1, j 2, by funext a; fin_cases a <;> rfl⟩
  refine (out_apply (holds m c H) _ _ b p q).trans ?_
  have e : blockLogit N (V m c main_v2) (V m c main_v3) b
      = argLogit N (m ((c.tc : Thread nD τ).loc main_arg3)) (m ((c.tc : Thread nD τ).loc main_arg4)) b := by
    exact congrArg₂ (fun f g => N.maskedLogit f g b) (funext fun b => funext fun i => (staged m c).2.2.1 b i)
      (funext fun b => funext fun i => funext fun j => (staged m c).2.2.2.1 b i j)
  rw [e]
  rfl

/-- The result is the output array with operator and machine on one axis. -/
theorem tail (c : Dev nD) : Pipeline.afterTail₀ cfgs (dats m) 0 (V0 m) [hostOps1] c main_v8
    = shapeCast _ ((dats m 0 c).arrAt 9 cfg0.N) shapeCasts_S4x128x50_S4x6400 := by
  unfold Pipeline.afterTail₀
  simp only [hostOps1, List.flatten_cons, List.flatten_nil, List.append_nil]
  after_results_simp
  rw [show Pipeline.withArrays spec0 c (V0 m c) (fun w => (dats m 0 c).arrAt w cfg0.N) (Proc.devRef .tc main_v7)
      = (dats m 0 c).arrAt 9 cfg0.N from Pipeline.withArrays_arr spec0 launch0.win.arr_inj c (V0 m c) _ 9]
  rfl

/-- The result holds the probabilities. -/
theorem result (c : Dev nD) {N : Net} (H : Inputs N (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg8))) :
    Pipeline.afterTail₀ cfgs (dats m) 0 (V0 m) [hostOps1] c main_v8
      = probabilities N (m ((c.tc : Thread nD τ).loc main_arg3)) (m ((c.tc : Thread nD τ).loc main_arg4)) := by
  rw [tail, array_apply m c H]
  funext x
  obtain ⟨b, i, j, rfl⟩ := exists_pair x
  rw [probabilities_apply]
  pointwise

/-- The run: the result holds the probabilities, the arguments what they held. -/
theorem run {N : Dev nD → Net} (H : ∀ c : Dev nD, Inputs (N c) (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg8))) :
    θ_run defs (onTc (τ := τ) (main (F := Ideal))) ⟨m, fun _ => 0, ρ⟩ fun r => ∀ c : Dev nD,
      r.2.mem ((c.tc : Thread nD τ).loc main_v8)
        = probabilities (N c) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).2 main_v8 (Pipeline.mem_restRefs_of main_v8 (by decide) (by decide))).trans
    (result m c (H c)), h.2 c⟩) (θ_run_and (run_main m ρ) (unchanged m ρ))

end Cert.Proof.KernelArray

end
-- ==== Proof.Reference.lean ====
/- What the reference computes: the probabilities of the network its arguments hold. -/
module

public import proofs.«01_k».proof.Proof.Inputs
public import proofs.«01_k».proof.Proof.KernelSoftmax
public import proofs.«01_k».proof.Proof.Gen.ReferenceIdeal.Read
public import Idealize.ShloMosaic.Lib.Pointwise

@[expose] public section

set_option maxRecDepth 16384

noncomputable section

namespace Cert.Proof.Reference

open Idealize.ShloMosaic Cert.ReferenceIdeal Cert.ReferenceIdeal.Gen Cert.ReferenceIdeal.Read Cert.Proof.Policy

variable {N : Net} {a0 : Vec Ideal S4x256 .f32} {a1 : Vec Ideal S4x128x256 .f32} {a2 : Vec Ideal S4x50x256 .f32}
    {a5 : Vec Ideal S1024x768 .f32} {a6 : Vec Ideal S1024 .f32} {a7 : Vec Ideal S1x1024 .f32} {a8 : Vec Ideal S1 .f32}

/-! ## The logits -/

/-- The first layer on a pair's joined features: the product splits into the three features' products. -/
theorem pre_apply (H : Inputs N a0 a1 a2 a5 a6 a7 a8) (b : Fin 4) (i : Fin 128) (j : Fin 50) (k : Fin 1024) :
    (val_main_v11 (F := Ideal) a0 a1 a2 a5 a6 (ix4 b i j k) : EReal) = ((N.pre b i j k : ℝ) : EReal) := by
  pointwise [val_main_v11, val_main_v10, val_main_v9, val_main_v8, val_main_v7, val_main_v6, val_main_v5, val_main_v4, val_main_v3,
    val_main_v2, val_main_v1, val_main_v0]
  simp only [H.graph, H.op, H.mac, H.W1, H.b1]
  have h1 : ∀ x : Fin 256, ¬ 256 + x.val < 256 := fun x => by omega
  have h2 : ∀ x : Fin 256, ¬ 512 + x.val < 256 := fun x => by omega
  have h3 : ∀ x : Fin 256, ¬ 512 + x.val - 256 < 256 := fun x => by omega
  have h4 : ∀ x : Fin 256, 512 + x.val - 256 - 256 = x.val := fun x => by omega
  rw [sum_blocks 3 256, Fin.sum_univ_three]
  simp only [Fin.val_zero, Fin.val_one, Fin.val_two, Nat.mul_zero, Nat.zero_add, Nat.mul_one, Nat.reduceMul, Fin.is_lt, dite_true,
    Nat.add_sub_cancel_left, h1, h2, h3, h4, dite_false, ← EReal.coe_mul, ← coe_sum, ← EReal.coe_add]
  rfl

/-- The second layer's value on a pair. -/
theorem logit_apply (H : Inputs N a0 a1 a2 a5 a6 a7 a8) (b : Fin 4) (i : Fin 128) (j : Fin 50) :
    (val_main_v18 (F := Ideal) a0 a1 a2 a5 a6 a7 a8 (ix3 b i j) : EReal) = ((N.logit b i j : ℝ) : EReal) := by
  pointwise [val_main_v18, val_main_v17, val_main_v16, val_main_v15, val_main_v14, val_main_v13, val_main_v12, val_main_call0_v0,
    val_main_call0_cst]
  simp only [pre_apply H, H.w2, H.b2, ← EReal.coe_zero, ← coe_max, ← EReal.coe_mul, ← coe_sum, ← EReal.coe_add]
  rfl

/-- The masked logits, a batch's pairs on one axis. -/
theorem masked_apply (H : Inputs N a0 a1 a2 a5 a6 a7 a8) (a3 : Vec Ideal S4x128 .f32) (a4 : Vec Ideal S4x128x50 .f32)
    (b : Fin 4) (i : Fin 128) (j : Fin 50) :
    (val_main_v27 (F := Ideal) a0 a1 a2 a3 a4 a5 a6 a7 a8 (ix2 b ⟨50 * i.val + j.val, by omega⟩) : EReal)
      = ((argLogit N a3 a4 b i j : ℝ) : EReal) := by
  pointwise [val_main_v27, val_main_v26, val_main_v25, val_main_v24, val_main_v23, val_main_v22, val_main_v21, val_main_v20, val_main_v19,
    val_main_call1_v0, val_main_cst, val_main_cst_0, val_main_cst_1]
  classical
  rw [Blocks.both_select, logit_apply H, word_masked]
  unfold argLogit Net.maskedLogit
  split_ifs <;> rfl

/-! ## The softmax -/

/-- A row whose entries are reals has a real maximum. -/
theorem max_apply (x : FVec Ideal S4x6400 .f32) (v : FVec Ideal S_ .f32) (hv : (v (Shape.Idx.first h_S_) : EReal) = ⊥) (b : Fin 4)
    (l : Fin 128 → Fin 50 → ℝ) (hx : ∀ i j, (x (ix2 b ⟨50 * i.val + j.val, by omega⟩) : EReal) = ((l i j : ℝ) : EReal)) :
    ∃ r : ℝ, (Host.reduce (FloatOps.maximumf (F := Ideal) (φ := .f32)) x v reducesTo_S4x6400_S4_d1 h_S_ (ix1 b) : EReal) = ((r : ℝ) : EReal) := by
  have hf : ∀ k : Fin 6400, (x (ix2 b k) : EReal) = ((l ⟨k.val / 50, by omega⟩ ⟨k.val % 50, by omega⟩ : ℝ) : EReal) := fun k => by
    rw [← hx]
    exact congrArg (fun k => (x (ix2 b k) : EReal)) (Fin.ext (Nat.div_add_mod k.val 50).symm)
  have hr : S4x6400.Reduces [1] S4 := by decide
  rw [Host.reduce_eq_fold_single FloatOps.maximumf x v reducesTo_S4x6400_S4_d1 hr h_S_, hv]
  have e : x ∘ hr.lift (ix1 b) = fun k : Fin 6400 => (((l ⟨k.val / 50, by omega⟩ ⟨k.val % 50, by omega⟩ : ℝ) : EReal)) := by
    funext k
    refine Eq.trans ?_ (hf k)
    refine congrArg x (funext fun a => Fin.ext ?_)
    fin_cases a <;> rfl
  rw [e]
  exact fold_max_real (Finset.univ : Finset (Fin 6400)) Finset.univ_nonempty _

/-- The reference's result at a pair. -/
theorem out_apply (H : Inputs N a0 a1 a2 a5 a6 a7 a8) (a3 : Vec Ideal S4x128 .f32) (a4 : Vec Ideal S4x128x50 .f32)
    (b : Fin 4) (i : Fin 128) (j : Fin 50) :
    (val_main_v42 (F := Ideal) a0 a1 a2 a3 a4 a5 a6 a7 a8 (ix2 b ⟨50 * i.val + j.val, by omega⟩) : EReal)
      = ((soft (argLogit N a3 a4 b) i j : ℝ) : EReal) := by
  obtain ⟨r, hr⟩ := max_apply (val_main_v27 (F := Ideal) a0 a1 a2 a3 a4 a5 a6 a7 a8) (val_main_cst_2 (F := Ideal)) word_bot b _
    (masked_apply H a3 a4 b)
  have h31 : ∀ i j, (val_main_v31 (F := Ideal) a0 a1 a2 a3 a4 a5 a6 a7 a8 (ix2 b ⟨50 * i.val + j.val, by omega⟩) : EReal)
      = ((argLogit N a3 a4 b i j - r : ℝ) : EReal) := fun i j => by
    pointwise [val_main_v31, val_main_v30, val_main_v29]
    rw [masked_apply H, EReal.coe_sub]
    exact congrArg _ hr
  obtain ⟨s, hs⟩ := max_apply (val_main_v31 (F := Ideal) a0 a1 a2 a3 a4 a5 a6 a7 a8) (val_main_cst_3 (F := Ideal)) word_bot b _ h31
  have h34 : (val_main_v34 (F := Ideal) a0 a1 a2 a3 a4 a5 a6 a7 a8 (ix1 b) : EReal) = ((s : ℝ) : EReal) := by
    pointwise [val_main_v34, val_main_v33, val_main_cst_4]
    rw [word_bot, max_eq_right bot_le]
    exact hs
  have h38 : ∀ i j, (val_main_v38 (F := Ideal) a0 a1 a2 a3 a4 a5 a6 a7 a8 (ix2 b ⟨50 * i.val + j.val, by omega⟩) : EReal)
      = ((Real.exp (argLogit N a3 a4 b i j - (r + s)) : ℝ) : EReal) := fun i j => by
    pointwise [val_main_v38, val_main_v37, val_main_v36, val_main_v35]
    rw [h31, h34, ← EReal.coe_sub, Ideal.exp_coe, sub_sub]
  have h39 : (val_main_v39 (F := Ideal) a0 a1 a2 a3 a4 a5 a6 a7 a8 (ix1 b) : EReal)
      = ((∑ p : Fin 128, ∑ q : Fin 50, Real.exp (argLogit N a3 a4 b p q - (r + s)) : ℝ) : EReal) := by
    pointwise [val_main_v39, val_main_cst_5]
    rw [sum_blocks 128 50]
    simp only [h38, ← coe_sum]
  pointwise [val_main_v42, val_main_v41, val_main_v40]
  rw [h38, h39, div_real _ (norm_pos _ _).ne', soft_shift]

/-- The reference's result holds the probabilities. -/
theorem result (H : Inputs N a0 a1 a2 a5 a6 a7 a8) (a3 : Vec Ideal S4x128 .f32) (a4 : Vec Ideal S4x128x50 .f32) :
    val_main_v42 (F := Ideal) a0 a1 a2 a3 a4 a5 a6 a7 a8 = probabilities N a3 a4 := by
  funext x
  obtain ⟨b, i, j, rfl⟩ := exists_pair x
  exact (out_apply H a3 a4 b i j).trans (probabilities_apply N a3 a4 b i j).symm

end Cert.Proof.Reference

end
-- ==== Proof.lean ====
/- The proof of the certificate: the three frames, the idealization without a rewrite, and the equation between the
   idealized kernel's result and the reference's. The work is in the modules under Proof/: Policy (the network over the
   reals), Inputs (the arguments as a network), KernelBlocks, KernelActs, KernelLogits, KernelSoftmax, KernelOut (the
   body's output block), KernelArray (the kernel's result), Reference (the reference's result). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.KernelArray
public import proofs.«01_k».proof.Proof.Reference
public import Idealize.ShloMosaic.Adequacy
public import Idealize.ShloMosaic.Init

@[expose] public section

noncomputable section

namespace Cert.Proof

open Idealize.ShloMosaic Idealize.SL.Sem Cert.Kernel

/-- On arguments that hold a network both programs leave its probabilities in their results. -/
theorem algebraic : Cert.algebraic_KernelIdeal_ReferenceIdeal_pre_finite_inputs := by
  intro m g m' g' hpre hagree
  choose N H using Policy.exists_net m hpre
  refine ⟨fun c => Policy.probabilities (N c) _ _, KernelArray.run m g H, ?_⟩
  refine (θ_run _ _ _).mono (fun _ h c => ⟨(h c).1.trans ?_, (h c).2⟩) (Cert.ReferenceIdeal.Value.run m' g')
  obtain ⟨e0, e1, e2, e3, e4, e5, e6, e7, e8⟩ := hagree c
  rw [Cert.ReferenceIdeal.Read.val_main_v42_eq, e0, e1, e2, e3, e4, e5, e6, e7, e8]
  exact Reference.result (H c) _ _

/-- The reference runs, leaves its arguments as they were, and has no semaphore whose counter could move. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
